-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x4608 : Shape := ⟨3, ![96, 1, 4608]⟩
abbrev S1152x36864 : Shape := ⟨2, ![1152, 36864]⟩
abbrev S288x36864 : Shape := ⟨2, ![288, 36864]⟩
abbrev S18x36864 : Shape := ⟨2, ![18, 36864]⟩
abbrev S96x18x128x2 : Shape := ⟨4, ![96, 18, 128, 2]⟩
abbrev S96x18x2x128 : Shape := ⟨4, ![96, 18, 2, 128]⟩
abbrev S96x4608 : Shape := ⟨2, ![96, 4608]⟩
abbrev S96x36864 : Shape := ⟨2, ![96, 36864]⟩
abbrev S1152x512 : Shape := ⟨2, ![1152, 512]⟩
abbrev S288x512 : Shape := ⟨2, ![288, 512]⟩
abbrev S18x512 : Shape := ⟨2, ![18, 512]⟩
abbrev S96x512 : Shape := ⟨2, ![96, 512]⟩
abbrev S64x512 : Shape := ⟨2, ![64, 512]⟩
abbrev S16x512 : Shape := ⟨2, ![16, 512]⟩
abbrev S1x512 : Shape := ⟨2, ![1, 512]⟩
abbrev S16x1x512 : Shape := ⟨3, ![16, 1, 512]⟩
abbrev S16x8x512 : Shape := ⟨3, ![16, 8, 512]⟩
abbrev S128x512 : Shape := ⟨2, ![128, 512]⟩
abbrev S96x128 : Shape := ⟨2, ![96, 128]⟩
abbrev S96x1x36864 : Shape := ⟨3, ![96, 1, 36864]⟩

abbrev nBuf : Space → Nat
  | .hbm => 10
  | .vmem => 11
  | .smem => 0
  | _ => 0

abbrev bufTy : (tb : Table) → Fin (tcTables nBuf tb) → BufTy
  | .hbm, ⟨0, _⟩ => ⟨S96x1x4608, .bf16⟩
  | .hbm, ⟨1, _⟩ => ⟨S1152x36864, .i8⟩
  | .hbm, ⟨2, _⟩ => ⟨S288x36864, .i8⟩
  | .hbm, ⟨3, _⟩ => ⟨S18x36864, .bf16⟩
  | .hbm, ⟨4, _⟩ => ⟨S18x36864, .bf16⟩
  | .hbm, ⟨5, _⟩ => ⟨S96x18x128x2, .bf16⟩
  | .hbm, ⟨6, _⟩ => ⟨S96x18x2x128, .bf16⟩
  | .hbm, ⟨7, _⟩ => ⟨S96x4608, .bf16⟩
  | .hbm, ⟨8, _⟩ => ⟨S96x36864, .bf16⟩
  | .hbm, ⟨9, _⟩ => ⟨S96x1x36864, .bf16⟩
  | .local _ .vmem, ⟨0, _⟩ => ⟨S96x4608, .bf16⟩
  | .local _ .vmem, ⟨1, _⟩ => ⟨S1152x512, .i8⟩
  | .local _ .vmem, ⟨2, _⟩ => ⟨S1152x512, .i8⟩
  | .local _ .vmem, ⟨3, _⟩ => ⟨S288x512, .i8⟩
  | .local _ .vmem, ⟨4, _⟩ => ⟨S288x512, .i8⟩
  | .local _ .vmem, ⟨5, _⟩ => ⟨S18x512, .bf16⟩
  | .local _ .vmem, ⟨6, _⟩ => ⟨S18x512, .bf16⟩
  | .local _ .vmem, ⟨7, _⟩ => ⟨S18x512, .bf16⟩
  | .local _ .vmem, ⟨8, _⟩ => ⟨S18x512, .bf16⟩
  | .local _ .vmem, ⟨9, _⟩ => ⟨S96x512, .bf16⟩
  | .local _ .vmem, ⟨10, _⟩ => ⟨S96x512, .bf16⟩
  | _, _ => ⟨S96x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1152x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S96x1x4608 : Shape := ⟨3, ![96, 1, 4608]⟩
abbrev S1152x36864 : Shape := ⟨2, ![1152, 36864]⟩
abbrev S288x36864 : Shape := ⟨2, ![288, 36864]⟩
abbrev S18x36864 : Shape := ⟨2, ![18, 36864]⟩
abbrev S_ : Shape := ⟨0, ![]⟩
abbrev S18x16x36864 : Shape := ⟨3, ![18, 16, 36864]⟩
abbrev S288x4x36864 : Shape := ⟨3, ![288, 4, 36864]⟩
abbrev S4 : Shape := ⟨1, ![4]⟩
abbrev S4x1x1 : Shape := ⟨3, ![4, 1, 1]⟩
abbrev S1x1152x36864 : Shape := ⟨3, ![1, 1152, 36864]⟩
abbrev S4x1152x36864 : Shape := ⟨3, ![4, 1152, 36864]⟩
abbrev S96x1152x4 : Shape := ⟨3, ![96, 1152, 4]⟩
abbrev S96x4x1152 : Shape := ⟨3, ![96, 4, 1152]⟩
abbrev S96x36864 : Shape := ⟨2, ![96, 36864]⟩
abbrev S96x1x36864 : Shape := ⟨3, ![96, 1, 36864]⟩

abbrev nBuf : Space → Nat
  | .hbm => 49
  | .vmem => 0
  | .smem => 0
  | _ => 0

abbrev bufTy : (tb : Table) → Fin (tcTables nBuf tb) → BufTy
  | .hbm, ⟨0, _⟩ => ⟨S96x1x4608, .bf16⟩
  | .hbm, ⟨1, _⟩ => ⟨S1152x36864, .i8⟩
  | .hbm, ⟨2, _⟩ => ⟨S288x36864, .i8⟩
  | .hbm, ⟨3, _⟩ => ⟨S18x36864, .bf16⟩
  | .hbm, ⟨4, _⟩ => ⟨S18x36864, .bf16⟩
  | .hbm, ⟨5, _⟩ => ⟨S288x36864, .i32⟩
  | .hbm, ⟨6, _⟩ => ⟨S_, .i32⟩
  | .hbm, ⟨7, _⟩ => ⟨S288x36864, .i32⟩
  | .hbm, ⟨8, _⟩ => ⟨S288x36864, .i32⟩
  | .hbm, ⟨9, _⟩ => ⟨S288x36864, .bf16⟩
  | .hbm, ⟨10, _⟩ => ⟨S_, .i32⟩
  | .hbm, ⟨11, _⟩ => ⟨S288x36864, .i32⟩
  | .hbm, ⟨12, _⟩ => ⟨S288x36864, .i32⟩
  | .hbm, ⟨13, _⟩ => ⟨S288x36864, .bf16⟩
  | .hbm, ⟨14, _⟩ => ⟨S18x16x36864, .bf16⟩
  | .hbm, ⟨15, _⟩ => ⟨S288x36864, .bf16⟩
  | .hbm, ⟨16, _⟩ => ⟨S288x36864, .bf16⟩
  | .hbm, ⟨17, _⟩ => ⟨S18x16x36864, .bf16⟩
  | .hbm, ⟨18, _⟩ => ⟨S288x36864, .bf16⟩
  | .hbm, ⟨19, _⟩ => ⟨S288x36864, .bf16⟩
  | .hbm, ⟨20, _⟩ => ⟨S288x4x36864, .bf16⟩
  | .hbm, ⟨21, _⟩ => ⟨S1152x36864, .bf16⟩
  | .hbm, ⟨22, _⟩ => ⟨S288x4x36864, .bf16⟩
  | .hbm, ⟨23, _⟩ => ⟨S1152x36864, .bf16⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S4x1x1, .i32⟩
  | .hbm, ⟨29, _⟩ => ⟨S1152x36864, .i32⟩
  | .hbm, ⟨30, _⟩ => ⟨S1x1152x36864, .i32⟩
  | .hbm, ⟨31, _⟩ => ⟨S4x1152x36864, .i32⟩
  | .hbm, ⟨32, _⟩ => ⟨S4x1152x36864, .i32⟩
  | .hbm, ⟨33, _⟩ => ⟨S4x1152x36864, .i32⟩
  | .hbm, ⟨34, _⟩ => ⟨S_, .i32⟩
  | .hbm, ⟨35, _⟩ => ⟨S4x1152x36864, .i32⟩
  | .hbm, ⟨36, _⟩ => ⟨S4x1152x36864, .i32⟩
  | .hbm, ⟨37, _⟩ => ⟨S4x1152x36864, .bf16⟩
  | .hbm, ⟨38, _⟩ => ⟨S1x1152x36864, .bf16⟩
  | .hbm, ⟨39, _⟩ => ⟨S4x1152x36864, .bf16⟩
  | .hbm, ⟨40, _⟩ => ⟨S4x1152x36864, .bf16⟩
  | .hbm, ⟨41, _⟩ => ⟨S1x1152x36864, .bf16⟩
  | .hbm, ⟨42, _⟩ => ⟨S4x1152x36864, .bf16⟩
  | .hbm, ⟨43, _⟩ => ⟨S4x1152x36864, .bf16⟩
  | .hbm, ⟨44, _⟩ => ⟨S96x1152x4, .bf16⟩
  | .hbm, ⟨45, _⟩ => ⟨S96x4x1152, .bf16⟩
  | .hbm, ⟨46, _⟩ => ⟨S96x36864, .f32⟩
  | .hbm, ⟨47, _⟩ => ⟨S96x36864, .bf16⟩
  | .hbm, ⟨48, _⟩ => ⟨S96x1x36864, .bf16⟩
  | _, _ => ⟨S96x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.Step.lean ====
/-
  The kernel's inner step as one definition: half a super-block of 256 weights per column, unpacked, scaled and multiplied
  with its 128 columns of tokens. The printed body is 36 copies of it; `out_eq` says so.
-/
module

public import proofs.«01_k».proof.Proof.Gen.KernelIdeal.Frame

@[expose] public section

noncomputable section

namespace Cert.KernelIdeal.Step

open Cert.KernelIdeal Cert.KernelIdeal.Gen Idealize.ShloMosaic

variable {F : FTy → Type} [FloatOps F]

/-- Field `sh / 4` of every word: four bits from bit `sh` on. -/
def nib (w : IVec S16x512 32) (sh : BitVec 32) : IVec S16x512 32 :=
  andi (shrui w (broadcast S16x512 sh)) (broadcast S16x512 15#32)

/-- The masked words of half `h` (`sh = 2 h`): in every 4-bit field the two bits of the code, then two zeros. -/
def masked (v1 : Vec F S64x512 .i8) (sh : BitVec 32) : IVec S16x512 32 :=
  andi (shrui (k0_pay3 v1) (broadcast S16x512 sh)) (broadcast S16x512 858993459#32)

/-- The eight fields of every word, one under the other: 16 rows of words are 128 rows of codes. -/
def fields (w : IVec S16x512 32) : IVec S128x512 32 :=
  shapeCast S128x512
    (concatenate S16x8x512 1
      [⟨S16x1x512, shapeCast S16x1x512 (nib w 0#32) shapeCasts_S16x512_S16x1x512⟩,
       ⟨S16x1x512, shapeCast S16x1x512 (nib w 4#32) shapeCasts_S16x512_S16x1x512⟩,
       ⟨S16x1x512, shapeCast S16x1x512 (nib w 8#32) shapeCasts_S16x512_S16x1x512⟩,
       ⟨S16x1x512, shapeCast S16x1x512 (nib w 12#32) shapeCasts_S16x512_S16x1x512⟩,
       ⟨S16x1x512, shapeCast S16x1x512 (nib w 16#32) shapeCasts_S16x512_S16x1x512⟩,
       ⟨S16x1x512, shapeCast S16x1x512 (nib w 20#32) shapeCasts_S16x512_S16x1x512⟩,
       ⟨S16x1x512, shapeCast S16x1x512 (nib w 24#32) shapeCasts_S16x512_S16x1x512⟩,
       ⟨S16x1x512, shapeCast S16x1x512 (nib w 28#32) shapeCasts_S16x512_S16x1x512⟩]
      concatenates_S16x1x512_S16x1x512_S16x1x512_S16x1x512_S16x1x512_S16x1x512_S16x1x512_S16x1x512_S16x8x512_d1)
    shapeCasts_S16x8x512_S128x512

/-- The 128 rows of weights of half `h` of a super-block: code times scale minus minimum. -/
def weights (v1 : Vec F S64x512 .i8) (v3 : Vec F S16x512 .i8) (v13 v16 : Vec F S1x512 .bf16) (sh : BitVec 32) :
    FVec F S128x512 .bf16 :=
  subf (mulf (uitofp .bf16 (fields (masked v1 sh))) (k0_pay5 v3 v13)) (k0_pay6 v3 v16)

/-- One step: the accumulator plus the tokens' columns times the weights. -/
def step (acc : FVec F S96x512 .f32) (v1 : Vec F S64x512 .i8) (v3 : Vec F S16x512 .i8) (v13 v16 : Vec F S1x512 .bf16)
    (sh : BitVec 32) (xk : Vec F S96x128 .bf16) : FVec F S96x512 .f32 :=
  addf acc (matmul dot_S96x128_S128x512_S96x512_1_0_0_1_n_n none
    (shapeCast S96x128 xk shapeCasts_S96x128_S96x128) (weights v1 v3 v13 v16 sh) (constant S96x512 .f32 0x00000000#32))

/-- The rows a super-block reads of each input block: in bounds. -/
theorem inb_wp (sb : Fin 18) : ∀ a, (![64 * sb.val, 0] : Fin S1152x512.rank → Nat) a + S64x512.size a ≤ S1152x512.size a := by
  intro a
  match a with
  | ⟨0, _⟩ => show 64 * sb.val + 64 ≤ 1152; omega
  | ⟨1, _⟩ => show 0 + 512 ≤ 512; omega

theorem inb_ws (sb : Fin 18) : ∀ a, (![16 * sb.val, 0] : Fin S288x512.rank → Nat) a + S16x512.size a ≤ S288x512.size a := by
  intro a
  match a with
  | ⟨0, _⟩ => show 16 * sb.val + 16 ≤ 288; omega
  | ⟨1, _⟩ => show 0 + 512 ≤ 512; omega

theorem inb_wd (sb : Fin 18) : ∀ a, (![sb.val, 0] : Fin S18x512.rank → Nat) a + S1x512.size a ≤ S18x512.size a := by
  intro a
  match a with
  | ⟨0, _⟩ => show sb.val + 1 ≤ 18; omega
  | ⟨1, _⟩ => show 0 + 512 ≤ 512; omega

theorem inb_x (k : Fin 36) : ∀ a, (![0, 128 * k.val] : Fin S96x4608.rank → Nat) a + S96x128.size a ≤ S96x4608.size a := by
  intro a
  match a with
  | ⟨0, _⟩ => show 0 + 96 ≤ 96; omega
  | ⟨1, _⟩ => show 128 * k.val + 128 ≤ 4608; omega

/-- Super-block `sb`'s 64 rows of packed codes. -/
def wp (x1 : Vec F S1152x512 .i8) (sb : Fin 18) : Vec F S64x512 .i8 :=
  View.ld x1 (Rect.unit (s := S1152x512) ![64 * sb.val, 0] S64x512.size (inb_wp sb))

/-- Super-block `sb`'s 16 rows of packed group scales and minima. -/
def ws (x2 : Vec F S288x512 .i8) (sb : Fin 18) : Vec F S16x512 .i8 :=
  View.ld x2 (Rect.unit (s := S288x512) ![16 * sb.val, 0] S16x512.size (inb_ws sb))

/-- Super-block `sb`'s row of factors. -/
def wd (x3 : Vec F S18x512 .bf16) (sb : Fin 18) : Vec F S1x512 .bf16 :=
  View.ld x3 (Rect.unit (s := S18x512) ![sb.val, 0] S1x512.size (inb_wd sb))

/-- The tokens' columns of half-block `k`. -/
def xk (x0 : Vec F S96x4608 .bf16) (k : Fin 36) : Vec F S96x128 .bf16 :=
  View.ld x0 (Rect.unit (s := S96x4608) ![0, 128 * k.val] S96x128.size (inb_x k))

/-- A super-block: its two halves, one after the other. -/
def block (x0 : Vec F S96x4608 .bf16) (x1 : Vec F S1152x512 .i8) (x2 : Vec F S288x512 .i8) (x3 x4 : Vec F S18x512 .bf16)
    (acc : FVec F S96x512 .f32) (sb : Fin 18) : FVec F S96x512 .f32 :=
  step (step acc (wp x1 sb) (ws x2 sb) (wd x3 sb) (wd x4 sb) 0#32 (xk x0 ⟨2 * sb.val, by omega⟩))
    (wp x1 sb) (ws x2 sb) (wd x3 sb) (wd x4 sb) 2#32 (xk x0 ⟨2 * sb.val + 1, by omega⟩)

/-- The accumulator after all 18 super-blocks, from zero. -/
def total (x0 : Vec F S96x4608 .bf16) (x1 : Vec F S1152x512 .i8) (x2 : Vec F S288x512 .i8) (x3 x4 : Vec F S18x512 .bf16) :
    FVec F S96x512 .f32 :=
  [0, 1, 2, 3, 4, 5, 6, 7, 8, 9, 10, 11, 12, 13, 14, 15, 16, 17].foldl (block x0 x1 x2 x3 x4) k0_pay2

/-- The printed body's output block is the accumulator after all super-blocks, rounded to bfloat16. -/
theorem out_eq (x0 : Vec F S96x4608 .bf16) (x1 : Vec F S1152x512 .i8) (x2 : Vec F S288x512 .i8) (x3 x4 : Vec F S18x512 .bf16) :
    out0_5 x0 x1 x2 x3 x4 = View.canon [⟨r0_90, truncf .bf16 (total x0 x1 x2 x3 x4) bitsLt_bf16_f32⟩] := by
  unfold_out out0_5
  rfl

end Cert.KernelIdeal.Step

end
-- ==== Proof.Weight.lean ====
/-
  The mathematics of the product, away from both programs: one weight from its packed bytes, one output element as a sum
  of 4608 products, and the two regroupings of that sum.
-/
module

public import Idealize.ShloMosaic.Lib.Pointwise

@[expose] public section

noncomputable section

namespace Cert.Weight

open Idealize.ShloMosaic

/-! ## One weight -/

/-- Two-bit field `s` of a byte, as a number. -/
def code (b : BitVec 8) (s : ℕ) : EReal := (((((b.setWidth 32) >>> (2 * s)) &&& 3#32).toNat : ℝ) : EReal)

/-- The low four bits of a byte, as a number: a group's scale. -/
def lo (b : BitVec 8) : EReal := (((b.setWidth 32 &&& 15#32).toNat : ℝ) : EReal)

/-- The high four bits of a byte, as a number: a group's minimum. -/
def hi (b : BitVec 8) : EReal := ((((b.setWidth 32) >>> 4).toNat : ℝ) : EReal)

/-- One weight: code times scale minus minimum, each of the latter two times the super-block's factor. -/
def weight (b : BitVec 8) (s : ℕ) (g : BitVec 8) (d dm : EReal) : EReal := code b s * (d * lo g) - dm * hi g

/-- The signed reading of a byte's low four bits is `lo`. -/
theorem sitofp_lo (b : BitVec 8) :
    FloatOps.sitofp (F := Ideal) .f32 (IntOp.andi (b.setWidth 32) 15#32) = lo b := by
  have h : ∀ b : BitVec 8, (b.setWidth 32 &&& 15#32).toInt = ((b.setWidth 32 &&& 15#32).toNat : ℤ) := by decide +kernel
  show (((b.setWidth 32 &&& 15#32).toInt : ℝ) : EReal) = _
  rw [h]
  rfl

/-- The signed reading of a byte's high four bits, shifted down arithmetically, is `hi`. -/
theorem sitofp_hi (b : BitVec 8) :
    FloatOps.sitofp (F := Ideal) .f32 (IntOp.shrsi .vector (b.setWidth 32) 4#32) = hi b := by
  have h : ∀ b : BitVec 8, ((b.setWidth 32).sshiftRight' 4#32).toInt = (((b.setWidth 32) >>> 4).toNat : ℤ) := by
    decide +kernel
  show ((((b.setWidth 32).sshiftRight' 4#32).toInt : ℝ) : EReal) = _
  rw [h]
  rfl

/-- A word whose byte `j / 2` is `b`, shifted by `2 h`, masked with `0x33333333`, then its 4-bit field `j`: two-bit field
    `h + 2 (j % 2)` of `b`. -/
theorem nibble (W : BitVec 32) (b : BitVec 8) (h j : ℕ) (hh : h < 2) (hj : j < 8)
    (hW : ∀ i < 8, W.getLsbD (8 * (j / 2) + i) = b.getLsbD i) :
    (((W >>> (2 * h)) &&& 858993459#32) >>> (4 * j)) &&& 15#32 = ((b.setWidth 32) >>> (2 * (h + 2 * (j % 2)))) &&& 3#32 := by
  have mask : ∀ i : Fin 32, (858993459#32 : BitVec 32).getLsbD i = decide (i.val % 4 < 2) := by decide
  have m15 : ∀ i : Fin 32, (15#32 : BitVec 32).getLsbD i = decide (i.val < 4) := by decide
  have m3 : ∀ i : Fin 32, (3#32 : BitVec 32).getLsbD i = decide (i.val < 2) := by decide
  apply BitVec.eq_of_getLsbD_eq
  intro q hq
  simp only [BitVec.getLsbD_and, BitVec.getLsbD_ushiftRight, BitVec.getLsbD_setWidth]
  rw [m15 ⟨q, hq⟩, m3 ⟨q, hq⟩]
  by_cases h2 : q < 2
  · rw [mask ⟨4 * j + q, by omega⟩]
    have e1 : 2 * h + (4 * j + q) = 8 * (j / 2) + (2 * (h + 2 * (j % 2)) + q) := by omega
    rw [e1, hW _ (by omega)]
    have e2 : q % 4 ≤ 1 := by omega
    have e3 : 2 * (h + 2 * (j % 2)) + q < 32 := by omega
    simp [e2, e3, h2, show q < 4 by omega]
  · by_cases h4 : q < 4
    · rw [mask ⟨4 * j + q, by omega⟩]
      have e2 : ¬ q % 4 ≤ 1 := by omega
      simp [e2, h2]
    · simp [h2, h4]

/-! ## One output element -/

/-- One output element: token columns `x` against one column of weights, given as its packed bytes `p` (four codes a byte),
    its groups' bytes `g` (16 rows a group) and its super-blocks' factors `d`, `dm` (256 rows each). -/
def value (x : Fin 4608 → EReal) (p : Fin 1152 → BitVec 8) (g : Fin 288 → BitVec 8) (d dm : Fin 18 → EReal) : EReal :=
  ∑ q : Fin 4608, x q * weight (p ⟨q.val / 4, by omega⟩) (q.val % 4) (g ⟨q.val / 16, by omega⟩)
    (d ⟨q.val / 256, by omega⟩) (dm ⟨q.val / 256, by omega⟩)

/-- A sum over `a`, then over the `n` positions after `n a`, is the sum over all positions. -/
theorem sum_mul {M : Type*} [AddCommMonoid M] {m n N : ℕ} (hN : m * n = N) (f : Fin N → M)
    (hb : ∀ (a : Fin m) (b : Fin n), n * a.val + b.val < N) :
    ∑ a : Fin m, ∑ b : Fin n, f ⟨n * a.val + b.val, hb a b⟩ = ∑ q : Fin N, f q := by
  subst hN
  rw [← Fintype.sum_prod_type', ← finProdFinEquiv.sum_comp]
  exact Finset.sum_congr rfl fun x _ => congrArg f (Fin.ext (add_comm _ _))

end Cert.Weight

end
-- ==== Proof.StepValue.lean ====
/-
  What one block of the kernel computes, read over the extended reals: element `(t, l)` of the accumulator after all steps
  is `Weight.value` of row `t` of the tokens and column `l` of the weights.
-/
module

public import proofs.«01_k».proof.Proof.Step
public import proofs.«01_k».proof.Proof.Weight
public import Idealize.ShloMosaic.Lib.Pointwise
public import Idealize.ShloMosaic.Lib.Pointwise.IndexBridge
public import Idealize.ShloMosaic.Lib.BitcastFour

@[expose] public section

set_option maxRecDepth 16384

noncomputable section

namespace Cert.KernelIdeal.Step

open Cert.KernelIdeal Cert.KernelIdeal.Gen Idealize.ShloMosaic Cert.Weight

/-- The unpacked field in row `r` of half `h`: two-bit field `h + 2 (r % 2)` of packed row `r / 2`. -/
theorem fields_apply (v1 : Vec Ideal S64x512 .i8) (h : Fin 2) (r : Fin 128) (l : Fin 512) :
    fields (masked v1 (BitVec.ofNat 32 (2 * h.val))) (ix2 r l)
      = (((v1 (ix2 ⟨r.val / 2, by omega⟩ l)).setWidth 32) >>> (2 * (h.val + 2 * (r.val % 2)))) &&& 3#32 := by
  have key : ∀ j : ℕ, (hj : r.val % 8 = j) →
      IntOp.andi (IntOp.shrui ArithUnit.vector
        (masked v1 (BitVec.ofNat 32 (2 * h.val)) (ix2 ⟨r.val / 8, by omega⟩ l)) (BitVec.ofNat 32 (4 * j))) 15#32
      = (((v1 (ix2 ⟨r.val / 2, by omega⟩ l)).setWidth 32) >>> (2 * (h.val + 2 * (r.val % 2)))) &&& 3#32 := by
    intro j hj
    have e1 : (BitVec.ofNat 32 (4 * j)).toNat = 4 * j := by rw [BitVec.toNat_ofNat]; omega
    have e2 : (BitVec.ofNat 32 (2 * h.val)).toNat = 2 * h.val := by rw [BitVec.toNat_ofNat]; omega
    have e3 : r.val % 2 = j % 2 := by omega
    have em : masked v1 (BitVec.ofNat 32 (2 * h.val)) (ix2 ⟨r.val / 8, by omega⟩ l)
        = ((bitcast S16x512 32 v1 bitcasts_S64x512_w8_S16x512_w32 (ix2 ⟨r.val / 8, by omega⟩ l)) >>> (2 * h.val)) &&& 858993459#32 := by
      show IntOp.andi (IntOp.shrui ArithUnit.vector _ _) _ = _
      unfold IntOp.andi IntOp.shrui
      rw [show (broadcast S16x512 (BitVec.ofNat 32 (2 * h.val))) (ix2 ⟨r.val / 8, by omega⟩ l) = BitVec.ofNat 32 (2 * h.val) from rfl,
        if_pos (by rw [e2]; omega), BitVec.ushiftRight_eq', e2]
      rfl
    unfold IntOp.andi IntOp.shrui
    rw [if_pos (by rw [e1]; omega), BitVec.ushiftRight_eq', e1, em, e3]
    refine nibble _ _ h.val j h.isLt (by omega) fun i hi => ?_
    rw [ix2_eq_valueIdx, ix2_eq_valueIdx]
    rw [bitcast_8_32_getLsbD_ix2 v1 bitcasts_S64x512_w8_S16x512_w32 ⟨r.val / 8, by omega⟩ l (8 * (j / 2) + i) (by omega)
      ⟨r.val / 2, by omega⟩ (by show r.val / 2 = 4 * (r.val / 8) + (8 * (j / 2) + i) / 8; omega)]
    congr 1
    omega
  pointwise [fields, nib]
  have hk : r.val % 8 = 0 ∨ r.val % 8 = 1 ∨ r.val % 8 = 2 ∨ r.val % 8 = 3 ∨ r.val % 8 = 4 ∨ r.val % 8 = 5 ∨ r.val % 8 = 6
      ∨ r.val % 8 = 7 := by omega
  rcases hk with hk | hk | hk | hk | hk | hk | hk | hk
  all_goals
    have e := key _ hk
    simp only [Nat.reduceMul] at e
    simp only [hk, Nat.reduceSub, Nat.reduceLT, ↓reduceDIte]
    exact e

/-- Row `r` of half `h` of a super-block's weights is the weight of two-bit field `h + 2 (r % 2)` of packed row `r / 2`,
    in group `r / 8`. -/
theorem weights_apply (v1 : Vec Ideal S64x512 .i8) (v3 : Vec Ideal S16x512 .i8) (v13 v16 : Vec Ideal S1x512 .bf16) (h : Fin 2)
    (r : Fin 128) (l : Fin 512) :
    weights v1 v3 v13 v16 (BitVec.ofNat 32 (2 * h.val)) (ix2 r l)
      = weight (v1 (ix2 ⟨r.val / 2, by omega⟩ l)) (h.val + 2 * (r.val % 2)) (v3 (ix2 ⟨r.val / 8, by omega⟩ l))
          (v13 (ix2 0 l)) (v16 (ix2 0 l)) := by
  have hs : k0_pay5 v3 v13 (ix2 r l) = v13 (ix2 0 l) * lo (v3 (ix2 ⟨r.val / 8, by omega⟩ l)) := by
    rw [← sitofp_lo]
    pointwise [k0_pay5, k0_pay4]
  have hm : k0_pay6 v3 v16 (ix2 r l) = v16 (ix2 0 l) * hi (v3 (ix2 ⟨r.val / 8, by omega⟩ l)) := by
    rw [← sitofp_hi]
    pointwise [k0_pay6, k0_pay4]
  have hc := fields_apply v1 h r l
  unfold weights
  show FloatOps.uitofp (F := Ideal) .bf16 (fields (masked v1 (BitVec.ofNat 32 (2 * h.val))) (ix2 r l)) * k0_pay5 v3 v13 (ix2 r l)
    - k0_pay6 v3 v16 (ix2 r l) = _
  rw [hs, hm, hc]
  rfl

/-- One step adds, at `(t, l)`, 128 products of a token's entry with a weight. -/
theorem step_apply (acc : FVec Ideal S96x512 .f32) (v1 : Vec Ideal S64x512 .i8) (v3 : Vec Ideal S16x512 .i8)
    (v13 v16 : Vec Ideal S1x512 .bf16) (sh : BitVec 32) (x : Vec Ideal S96x128 .bf16) (t : Fin 96) (l : Fin 512) :
    step acc v1 v3 v13 v16 sh x (ix2 t l) = acc (ix2 t l) + ∑ r : Fin 128, x (ix2 t r) * weights v1 v3 v13 v16 sh (ix2 r l) := by
  pointwise [step]

/-! ## The loads of one super-block, at an index -/

theorem wp_apply (x1 : Vec Ideal S1152x512 .i8) (sb : Fin 18) (r : Fin 64) (l : Fin 512) :
    wp x1 sb (ix2 r l) = x1 (ix2 ⟨64 * sb.val + r.val, by omega⟩ l) := by
  pointwise [wp]

theorem ws_apply (x2 : Vec Ideal S288x512 .i8) (sb : Fin 18) (r : Fin 16) (l : Fin 512) :
    ws x2 sb (ix2 r l) = x2 (ix2 ⟨16 * sb.val + r.val, by omega⟩ l) := by
  pointwise [ws]

theorem wd_apply (x3 : Vec Ideal S18x512 .bf16) (sb : Fin 18) (l : Fin 512) :
    wd x3 sb (ix2 0 l) = x3 (ix2 sb l) := by
  pointwise [wd]

theorem xk_apply (x0 : Vec Ideal S96x4608 .bf16) (k : Fin 36) (t : Fin 96) (r : Fin 128) :
    xk x0 k (ix2 t r) = x0 (ix2 t ⟨128 * k.val + r.val, by omega⟩) := by
  pointwise [xk]

/-! ## The whole accumulation -/

/-- Where the kernel's token columns hold position `q` of the contraction: within a super-block the even positions come
    first, then the odd ones. -/
def place (q : Fin 4608) : Fin 4608 := ⟨256 * (q.val / 256) + 128 * (q.val % 2) + q.val % 256 / 2, by omega⟩

/-- The product the kernel adds for position `q` of the contraction. -/
def term (x0 : Vec Ideal S96x4608 .bf16) (x1 : Vec Ideal S1152x512 .i8) (x2 : Vec Ideal S288x512 .i8)
    (x3 x4 : Vec Ideal S18x512 .bf16) (t : Fin 96) (l : Fin 512) (q : Fin 4608) : EReal :=
  x0 (ix2 t (place q)) * weight (x1 (ix2 ⟨q.val / 4, by omega⟩ l)) (q.val % 4) (x2 (ix2 ⟨q.val / 16, by omega⟩ l))
    (x3 (ix2 ⟨q.val / 256, by omega⟩ l)) (x4 (ix2 ⟨q.val / 256, by omega⟩ l))

/-- Half `h` of super-block `sb` adds the products of the positions `256 sb + 2 r + h`. -/
theorem half_apply (x0 : Vec Ideal S96x4608 .bf16) (x1 : Vec Ideal S1152x512 .i8) (x2 : Vec Ideal S288x512 .i8)
    (x3 x4 : Vec Ideal S18x512 .bf16) (acc : FVec Ideal S96x512 .f32) (sb : Fin 18) (h : Fin 2) (t : Fin 96) (l : Fin 512) :
    step acc (wp x1 sb) (ws x2 sb) (wd x3 sb) (wd x4 sb) (BitVec.ofNat 32 (2 * h.val)) (xk x0 ⟨2 * sb.val + h.val, by omega⟩)
        (ix2 t l)
      = acc (ix2 t l) + ∑ r : Fin 128, term x0 x1 x2 x3 x4 t l ⟨256 * sb.val + (2 * r.val + h.val), by omega⟩ := by
  rw [step_apply]
  congr 1
  refine Finset.sum_congr rfl fun r _ => ?_
  rw [weights_apply, xk_apply, wp_apply, ws_apply, wd_apply, wd_apply]
  unfold term
  have e0 : (⟨128 * (2 * sb.val + h.val) + r.val, by omega⟩ : Fin 4608) = place ⟨256 * sb.val + (2 * r.val + h.val), by omega⟩ :=
    Fin.ext (by
      show 128 * (2 * sb.val + h.val) + r.val = 256 * ((256 * sb.val + (2 * r.val + h.val)) / 256)
        + 128 * ((256 * sb.val + (2 * r.val + h.val)) % 2) + (256 * sb.val + (2 * r.val + h.val)) % 256 / 2
      omega)
  have e1 : (⟨64 * sb.val + r.val / 2, by omega⟩ : Fin 1152) = ⟨(256 * sb.val + (2 * r.val + h.val)) / 4, by omega⟩ :=
    Fin.ext (by show 64 * sb.val + r.val / 2 = (256 * sb.val + (2 * r.val + h.val)) / 4; omega)
  have e2 : (⟨16 * sb.val + r.val / 8, by omega⟩ : Fin 288) = ⟨(256 * sb.val + (2 * r.val + h.val)) / 16, by omega⟩ :=
    Fin.ext (by show 16 * sb.val + r.val / 8 = (256 * sb.val + (2 * r.val + h.val)) / 16; omega)
  have e3 : (sb : Fin 18) = ⟨(256 * sb.val + (2 * r.val + h.val)) / 256, by omega⟩ :=
    Fin.ext (by show sb.val = (256 * sb.val + (2 * r.val + h.val)) / 256; omega)
  have e4 : h.val + 2 * (r.val % 2) = (256 * sb.val + (2 * r.val + h.val)) % 4 := by omega
  rw [← e0, ← e1, ← e2, ← e3, ← e4]

/-- A super-block adds its 256 products. -/
theorem block_apply (x0 : Vec Ideal S96x4608 .bf16) (x1 : Vec Ideal S1152x512 .i8) (x2 : Vec Ideal S288x512 .i8)
    (x3 x4 : Vec Ideal S18x512 .bf16) (acc : FVec Ideal S96x512 .f32) (sb : Fin 18) (t : Fin 96) (l : Fin 512) :
    block x0 x1 x2 x3 x4 acc sb (ix2 t l)
      = acc (ix2 t l) + ∑ u : Fin 256, term x0 x1 x2 x3 x4 t l ⟨256 * sb.val + u.val, by omega⟩ := by
  have h0 := fun a => half_apply x0 x1 x2 x3 x4 a sb 0 t l
  have h1 := fun a => half_apply x0 x1 x2 x3 x4 a sb 1 t l
  refine (h1 _).trans ?_
  rw [show ∀ a, step a (wp x1 sb) (ws x2 sb) (wd x3 sb) (wd x4 sb) 0#32 (xk x0 ⟨2 * sb.val, by omega⟩) (ix2 t l) = _ from h0,
    add_assoc]
  congr 1
  rw [← Weight.sum_mul (m := 128) (n := 2) rfl (fun u : Fin 256 => term x0 x1 x2 x3 x4 t l ⟨256 * sb.val + u.val, by omega⟩)
    (fun a b => by omega)]
  simp only [Fin.sum_univ_two]
  rw [Finset.sum_add_distrib]

/-- A fold whose every turn adds `B` at an index adds, there, the sum of all `B`. -/
theorem foldl_apply {β : Type} (f : FVec Ideal S96x512 .f32 → β → FVec Ideal S96x512 .f32) (B : β → EReal) (i : S96x512.Idx)
    (h : ∀ acc b, f acc b i = acc i + B b) (L : List β) :
    ∀ acc, L.foldl f acc i = acc i + (L.map B).sum := by
  induction L with
  | nil => intro acc; simp
  | cons b L ih => intro acc; rw [List.foldl_cons, ih, h, List.map_cons, List.sum_cons, add_assoc]

/-- After all super-blocks the accumulator holds the whole sum. -/
theorem total_apply (x0 : Vec Ideal S96x4608 .bf16) (x1 : Vec Ideal S1152x512 .i8) (x2 : Vec Ideal S288x512 .i8)
    (x3 x4 : Vec Ideal S18x512 .bf16) (t : Fin 96) (l : Fin 512) :
    total x0 x1 x2 x3 x4 (ix2 t l)
      = value (fun q => x0 (ix2 t (place q))) (fun k => x1 (ix2 k l)) (fun k => x2 (ix2 k l)) (fun k => x3 (ix2 k l))
          (fun k => x4 (ix2 k l)) := by
  have hz : (k0_pay2 : FVec Ideal S96x512 .f32) (ix2 t l) = 0 := by pointwise [k0_pay2]
  have hL : ([0, 1, 2, 3, 4, 5, 6, 7, 8, 9, 10, 11, 12, 13, 14, 15, 16, 17] : List (Fin 18)) = List.finRange 18 := by decide
  unfold total
  rw [hL, foldl_apply _ _ _ (fun acc sb => block_apply x0 x1 x2 x3 x4 acc sb t l), hz, zero_add, ← Fin.sum_univ_def]
  exact Weight.sum_mul (m := 18) (n := 256) rfl (term x0 x1 x2 x3 x4 t l) (fun a b => by omega)

end Cert.KernelIdeal.Step

end
-- ==== Proof.KernelArray.lean ====
/-
  The kernel's output array after all grid points: every element is `Weight.value` of its row of the permuted tokens and its
  column of the packed weights.
-/
module

public import proofs.«01_k».proof.Proof.StepValue
public import proofs.«01_k».proof.Proof.Gen.KernelIdeal.Frame
public import Idealize.ShloMosaic.Lib.Pipeline.ValueKit

@[expose] public section

set_option maxRecDepth 16384

noncomputable section

namespace Cert.KernelIdeal.Array

open Cert.KernelIdeal Cert.KernelIdeal.Gen Cert.KernelIdeal.Step Idealize.ShloMosaic Idealize.ShloMosaic.TcCoe Idealize.SL.Sem
open Idealize.ShloMosaic.Pipeline (Dat)
open Cert.Weight

variable (m : (ℓ : Loc nD τ sig) → Buf (Elt Ideal) ℓ)

/-- The output array's contents: at `(t, n)`, the value of token row `t` and weight column `n`. -/
def out (x : Vec Ideal S96x4608 .bf16) (p : Vec Ideal S1152x36864 .i8) (g : Vec Ideal S288x36864 .i8)
    (d dm : Vec Ideal S18x36864 .bf16) : Vec Ideal S96x36864 .bf16 := fun i =>
  value (fun q => x (ix2 (i 0) (place q))) (fun k => p (ix2 k (i 1))) (fun k => g (ix2 k (i 1))) (fun k => d (ix2 k (i 1)))
    (fun k => dm (ix2 k (i 1)))

/-- Where the token window's block lies: always at the origin. -/
theorem idx0 : ∀ t : Fin cfg0.N, win0_0.index t = ![0, 0] := (by decide +kernel : ∀ t : Fin grid0.N, _)
/-- Where the packed codes' block lies at point `t`. -/
theorem idx1 : ∀ t : Fin cfg0.N, win0_1.index t = ![0, t.val] := (by decide +kernel : ∀ t : Fin grid0.N, _)
/-- Where the group bytes' block lies at point `t`. -/
theorem idx2 : ∀ t : Fin cfg0.N, win0_2.index t = ![0, t.val] := (by decide +kernel : ∀ t : Fin grid0.N, _)
/-- Where the scales' block lies at point `t`. -/
theorem idx3 : ∀ t : Fin cfg0.N, win0_3.index t = ![0, t.val] := (by decide +kernel : ∀ t : Fin grid0.N, _)
/-- Where the minimums' block lies at point `t`. -/
theorem idx4 : ∀ t : Fin cfg0.N, win0_4.index t = ![0, t.val] := (by decide +kernel : ∀ t : Fin grid0.N, _)
/-- Where the output's block lies at point `t`. -/
theorem idx5 : ∀ t : Fin cfg0.N, win0_5.index t = ![0, t.val] := (by decide +kernel : ∀ t : Fin grid0.N, _)

theorem hz : (![0, 0] : Fin 2 → Nat) = fun _ => 0 := funext fun a => by fin_cases a <;> rfl

/-- Column `l` of block `t`, among all columns. -/
def col (t : Fin cfg0.N) (l : Fin 512) : Fin 36864 := ⟨512 * t.val + l.val, by have := t.isLt; have h : cfg0.N = 72 := rfl; omega⟩

/-- The token block is the whole token array. -/
theorem blk0 (c : Dev nD) (t : Fin cfg0.N) (r : Fin 96) (q : Fin 4608) :
    iblk m c 0 t (ix2 r q) = V m c main_v2 (ix2 r q) := by
  blk_ext [iblk, idx0 t]
/-- The packed codes' block at point `t` holds the columns of block `t`. -/
theorem blk1 (c : Dev nD) (t : Fin cfg0.N) (k : Fin 1152) (l : Fin 512) :
    iblk m c 1 t (ix2 k l) = V m c main_arg1 (ix2 k (col t l)) := by
  blk_ext [iblk, idx1 t, col]
/-- The group bytes' block at point `t` holds the columns of block `t`. -/
theorem blk2 (c : Dev nD) (t : Fin cfg0.N) (k : Fin 288) (l : Fin 512) :
    iblk m c 2 t (ix2 k l) = V m c main_arg2 (ix2 k (col t l)) := by
  blk_ext [iblk, idx2 t, col]
/-- The scales' block at point `t` holds the columns of block `t`. -/
theorem blk3 (c : Dev nD) (t : Fin cfg0.N) (k : Fin 18) (l : Fin 512) :
    iblk m c 3 t (ix2 k l) = V m c main_arg3 (ix2 k (col t l)) := by
  blk_ext [iblk, idx3 t, col]
/-- The minimums' block at point `t` holds the columns of block `t`. -/
theorem blk4 (c : Dev nD) (t : Fin cfg0.N) (k : Fin 18) (l : Fin 512) :
    iblk m c 4 t (ix2 k l) = V m c main_arg4 (ix2 k (col t l)) := by
  blk_ext [iblk, idx4 t, col]
/-- The output's block at point `t` is placed at the columns of block `t`. -/
theorem emb5 (t : Fin cfg0.N) (r : Fin 96) (l : Fin 512) :
    ((View.whole main_v3).slice (win0_5.rect t)).emb (ix2 r l) = ix2 r (col t l) := by
  blk_ext [idx5 t, col]

/-- Every block the output window writes back, together, cover its array. -/
theorem covers5 : (cfg0.win 5).Covers := by decide +kernel

/-- What point `t` leaves in the output block, at `(r, l)`. -/
theorem block_value (c : Dev nD) (t : Fin cfg0.N) (r : Fin 96) (l : Fin 512) :
    total (iblk m c 0 t) (iblk m c 1 t) (iblk m c 2 t) (iblk m c 3 t) (iblk m c 4 t) (ix2 r l)
      = out (V m c main_v2) (V m c main_arg1) (V m c main_arg2) (V m c main_arg3) (V m c main_arg4) (ix2 r (col t l)) := by
  rw [total_apply]
  simp only [blk0, blk1, blk2, blk3, blk4]
  rfl

/-- After the last grid point the output array holds `out` of the arrays the launch finds. -/
theorem final (c : Dev nD) : (dats m 0 c).arrAt 5 cfg0.N
    = out (V m c main_v2) (V m c main_arg1) (V m c main_arg2) (V m c main_arg3) (V m c main_arg4) := by
  refine (dats m 0 c).arrAt_eq_of_covers 5 _ covers5 fun t hf y => ?_
  blk_simp
  rw [after0_5, out_eq, View.canon_unit_zero hz]
  idx_vars y
  rw [emb5]
  exact block_value m c t y0 y1

end Cert.KernelIdeal.Array

end
-- ==== Proof.KernelRun.lean ====
/-
  The kernel's result after a run: element `(t, 0, n)` is `Weight.value` of row `t` of the tokens and column `n` of the packed
  weights, and the five arguments end as they were.
-/
module

public import proofs.«01_k».proof.Proof.KernelArray
public import Idealize.ShloMosaic.Lib.StableHlo.RunHlo

@[expose] public section

set_option maxRecDepth 16384

noncomputable section

namespace Cert.KernelIdeal.Array

open Cert.KernelIdeal Cert.KernelIdeal.Gen Cert.KernelIdeal.Step Idealize.ShloMosaic Idealize.ShloMosaic.TcCoe Idealize.SL.Sem
open Idealize.ShloMosaic.Pipeline (Dat)
open Cert.Weight

variable (m : (ℓ : Loc nD τ sig) → Buf (Elt Ideal) ℓ)

/-- The tokens as the kernel permutes them before the launch: even positions of each super-block first, then odd ones. -/
def permuted (x : Vec Ideal S96x1x4608 .bf16) : Vec Ideal S96x4608 .bf16 :=
  shapeCast S96x4608 (transpose S96x18x2x128 [0, 1, 3, 2] (shapeCast S96x18x128x2 x shapeCasts_S96x1x4608_S96x18x128x2)
    transposes_S96x18x128x2_S96x18x2x128_0_1_3_2) shapeCasts_S96x18x2x128_S96x4608

/-- What the launch finds in the token array. -/
theorem V_main_v2 (c : Dev nD) : V m c main_v2 = permuted (m ((c : Thread nD τ).loc main_arg0)) := by
  entry_read
  rfl

/-- Position `q` of a token row stands at `place q` of the permuted row. -/
theorem permuted_apply (x : Vec Ideal S96x1x4608 .bf16) (t : Fin 96) (q : Fin 4608) :
    permuted x (ix2 t (place q)) = x (ix3 t 0 q) := by
  pointwise [permuted]
  refine congrArg x (congrArg (ix3 t 0) (Fin.ext ?_))
  show (place q).val / 256 * 256 + (place q).val % 128 * 2 + (place q).val / 128 % 2 = q.val
  have hp : (place q).val = 256 * (q.val / 256) + (128 * (q.val % 2) + q.val % 256 / 2) := add_assoc _ _ _
  generalize (place q).val = p at hp ⊢
  have hr : 128 * (q.val % 2) + q.val % 256 / 2 < 256 := by omega
  have h1 : p / 256 = q.val / 256 := by omega
  have h2 : p / 128 = 2 * (q.val / 256) + q.val % 2 := by omega
  omega

/-- The kernel's result as a function of its arguments. -/
def result (x : Vec Ideal S96x1x4608 .bf16) (p : Vec Ideal S1152x36864 .i8) (g : Vec Ideal S288x36864 .i8)
    (d dm : Vec Ideal S18x36864 .bf16) : Vec Ideal S96x1x36864 .bf16 :=
  shapeCast S96x1x36864 (out (permuted x) p g d dm) shapeCasts_S96x36864_S96x1x36864

/-- The kernel's result at `(t, 0, n)`. -/
theorem result_apply (x : Vec Ideal S96x1x4608 .bf16) (p : Vec Ideal S1152x36864 .i8) (g : Vec Ideal S288x36864 .i8)
    (d dm : Vec Ideal S18x36864 .bf16) (t : Fin 96) (n : Fin 36864) :
    result x p g d dm (ix3 t 0 n)
      = value (fun q => x (ix3 t 0 q)) (fun k => p (ix2 k n)) (fun k => g (ix2 k n)) (fun k => d (ix2 k n))
          (fun k => dm (ix2 k n)) := by
  have h : result x p g d dm (ix3 t 0 n) = out (permuted x) p g d dm (ix2 t n) := by
    pointwise [result]
  rw [h]
  unfold out
  simp only [← permuted_apply]
  rfl

/-- What the host operations after the launch leave in the result. -/
theorem tail_main_v4 (c : Dev nD) :
    Pipeline.afterTail₀ cfgs (dats m) 0 (V0 m) [hostOps1] c main_v4
      = shapeCast S96x1x36864 ((dats m 0 c).arrAt 5 cfg0.N) shapeCasts_S96x36864_S96x1x36864 := by
  unfold Pipeline.afterTail₀
  simp only [hostOps1, List.flatten_cons, List.flatten_nil, List.append_nil]
  after_results
  exact congrArg (fun a => shapeCast S96x1x36864 a shapeCasts_S96x36864_S96x1x36864)
    (Pipeline.withArrays_arr spec0 (by decide) c (V0 m c) (fun w => (dats m 0 c).arrAt w cfg0.N) 5)

/-- A run of the kernel: the result holds `result` of the arguments, which end unchanged. -/
theorem run (ρ : Dev nD → PrngReg) : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have hv : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
            (m ((c : Thread nD τ).loc main_arg3)) (m ((c : Thread nD τ).loc main_arg4)) :=
    (θ_run defs _ _).mono (fun r h c => by
      refine ((h c).2 main_v4 (Pipeline.mem_restRefs_of main_v4 (by decide) (by decide))).trans ?_
      rw [tail_main_v4, final, V_main_v2, V_main_arg1, V_main_arg2, V_main_arg3, V_main_arg4]
      rfl) (run_main m ρ)
  exact (θ_run defs _ _).mono (fun r h c => ⟨h.1 c, h.2 c⟩) (θ_run_and hv (unchanged m ρ))

end Cert.KernelIdeal.Array

end
-- ==== Proof.RefValue.lean ====
/-
  The reference's result over the extended reals: element `(t, 0, n)` is `Weight.value` of row `t` of the tokens and column
  `n` of the packed weights.
-/
module

public import proofs.«01_k».proof.Proof.Weight
public import proofs.«01_k».proof.Proof.Gen.ReferenceIdeal.Read
public import Idealize.ShloMosaic.Lib.Pointwise
public import Idealize.ShloMosaic.Lib.Pointwise.IndexBridge

@[expose] public section

set_option maxRecDepth 16384

noncomputable section

namespace Cert.ReferenceIdeal.Proved

open Cert.ReferenceIdeal Cert.ReferenceIdeal.Gen Cert.ReferenceIdeal.Read Idealize.ShloMosaic Cert.Weight

/-- A host shift by an amount below the word's width is the plain shift. -/
theorem shift_small (w : BitVec 32) (s : ℕ) (hs : s < 32) : IntOp.shrui ArithUnit.host w (BitVec.ofNat 32 s) = w >>> s := by
  have e : (BitVec.ofNat 32 s).toNat = s := by rw [BitVec.toNat_ofNat]; omega
  unfold IntOp.shrui
  simp only [e, BitVec.ushiftRight_eq', hs, ↓reduceIte]

/-- The same at an amount of four. -/
theorem shift_four (w : BitVec 32) : IntOp.shrui ArithUnit.host w 4#32 = w >>> 4 := shift_small w 4 (by decide)

/-- The reference's group scales: byte `g`'s low half times its super-block's scale. -/
theorem scale_apply (x2 : Vec Ideal S288x36864 .i8) (x3 : Vec Ideal S18x36864 .bf16) (g : Fin 288) (n : Fin 36864) :
    val_main_v9 (F := Ideal) x2 x3 (ix2 g n) = x3 (ix2 ⟨g.val / 16, by omega⟩ n) * lo (x2 (ix2 g n)) := by
  pointwise [val_main_v9, val_main_v8, val_main_v7, val_main_v3, val_main_v2, val_main_v1, val_main_v0, val_main_c]
  rfl

/-- The reference's group minimums: byte `g`'s high half times its super-block's minimum. -/
theorem min_apply (x2 : Vec Ideal S288x36864 .i8) (x4 : Vec Ideal S18x36864 .bf16) (g : Fin 288) (n : Fin 36864) :
    val_main_v12 (F := Ideal) x2 x4 (ix2 g n) = x4 (ix2 ⟨g.val / 16, by omega⟩ n) * hi (x2 (ix2 g n)) := by
  pointwise [val_main_v12, val_main_v11, val_main_v10, val_main_v6, val_main_v5, val_main_v4, val_main_v0, val_main_c_0]
  rw [shift_four]
  rfl

/-- The reference's two-bit codes: field `j` of packed row `k`. -/
theorem code_apply (x1 : Vec Ideal S1152x36864 .i8) (j : Fin 4) (k : Fin 1152) (n : Fin 36864) :
    val_main_v28 (F := Ideal) x1 (ix3 j k n) = code (x1 (ix2 k n)) j.val := by
  pointwise [val_main_v28, val_main_v27, val_main_v26, val_main_c_2, val_main_v25, val_main_v24, val_main_v23, val_main_v22, val_main_v21, val_main_v20, val_main_v19, val_main_v18, val_main_v17, val_main_c_1]
  have hs : IntOp.muli (BitVec.ofNat 32 j.val) 2#32 = BitVec.ofNat 32 (2 * j.val) := by revert j; decide
  rw [hs, shift_small _ _ (by omega)]
  rfl

/-- The tokens as the reference permutes them: entry `(t, j, k)` is token entry `4 k + j`. -/
theorem token_apply (x0 : Vec Ideal S96x1x4608 .bf16) (t : Fin 96) (j : Fin 4) (k : Fin 1152) :
    val_main_v36 (F := Ideal) x0 (ix3 t j k) = x0 (ix3 t 0 ⟨4 * k.val + j.val, by omega⟩) := by
  pointwise [val_main_v36, val_main_v35]
  refine congrArg x0 (congrArg (ix3 t 0) (Fin.ext ?_))
  show k.val * 4 + j.val = 4 * k.val + j.val
  omega

/-- The reference's dequantized weights: entry `(j, k, n)` is weight `4 k + j` of column `n`. -/
theorem weight_apply (x1 : Vec Ideal S1152x36864 .i8) (x2 : Vec Ideal S288x36864 .i8)
    (x3 x4 : Vec Ideal S18x36864 .bf16) (j : Fin 4) (k : Fin 1152) (n : Fin 36864) :
    val_main_v34 (F := Ideal) x1 x2 x3 x4 (ix3 j k n)
      = weight (x1 (ix2 k n)) j.val (x2 (ix2 ⟨k.val / 4, by omega⟩ n)) (x3 (ix2 ⟨k.val / 64, by omega⟩ n))
          (x4 (ix2 ⟨k.val / 64, by omega⟩ n)) := by
  pointwise [val_main_v34, val_main_v33, val_main_v32, val_main_v31, val_main_v30, val_main_v29, val_main_v16, val_main_v15, val_main_v14, val_main_v13]
  rw [scale_apply, code_apply, min_apply]
  unfold weight
  have e : (⟨k.val / 4 / 16, by omega⟩ : Fin 18) = ⟨k.val / 64, by omega⟩ := Fin.ext (by show k.val / 4 / 16 = k.val / 64; omega)
  rw [mul_comm (code _ _), ← e]

/-- The reference's result at `(t, 0, n)`. -/
theorem result_apply (x0 : Vec Ideal S96x1x4608 .bf16) (x1 : Vec Ideal S1152x36864 .i8) (x2 : Vec Ideal S288x36864 .i8)
    (x3 x4 : Vec Ideal S18x36864 .bf16) (t : Fin 96) (n : Fin 36864) :
    val_main_v39 (F := Ideal) x0 x1 x2 x3 x4 (ix3 t 0 n)
      = value (fun q => x0 (ix3 t 0 q)) (fun k => x1 (ix2 k n)) (fun k => x2 (ix2 k n)) (fun k => x3 (ix2 k n))
          (fun k => x4 (ix2 k n)) := by
  pointwise [val_main_v39, val_main_v38, val_main_v37]
  simp only [token_apply, weight_apply]
  rw [Finset.sum_comm]
  unfold value
  rw [← Weight.sum_mul (m := 1152) (n := 4) rfl _ (fun a b => by omega)]
  refine Finset.sum_congr rfl fun k _ => Finset.sum_congr rfl fun j _ => ?_
  have e1 : (⟨(4 * k.val + j.val) / 4, by omega⟩ : Fin 1152) = k := Fin.ext (by show (4 * k.val + j.val) / 4 = k.val; omega)
  have e2 : (⟨(4 * k.val + j.val) / 16, by omega⟩ : Fin 288) = ⟨k.val / 4, by omega⟩ :=
    Fin.ext (by show (4 * k.val + j.val) / 16 = k.val / 4; omega)
  have e3 : (⟨(4 * k.val + j.val) / 256, by omega⟩ : Fin 18) = ⟨k.val / 64, by omega⟩ :=
    Fin.ext (by show (4 * k.val + j.val) / 256 = k.val / 64; omega)
  have e4 : (4 * k.val + j.val) % 4 = j.val := by omega
  show _ = x0 (ix3 t 0 ⟨4 * k.val + j.val, _⟩) * weight (x1 (ix2 ⟨(4 * k.val + j.val) / 4, _⟩ n)) ((4 * k.val + j.val) % 4)
    (x2 (ix2 ⟨(4 * k.val + j.val) / 16, _⟩ n)) (x3 (ix2 ⟨(4 * k.val + j.val) / 256, _⟩ n)) (x4 (ix2 ⟨(4 * k.val + j.val) / 256, _⟩ n))
  rw [e1, e2, e3, e4]

end Cert.ReferenceIdeal.Proved

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefValue
public import Idealize.ShloMosaic.Lib.Quiescent

@[expose] public section

set_option maxRecDepth 16384

noncomputable section

namespace Cert.Proof

open Idealize.ShloMosaic Idealize.SL.Sem

/-- The kernel's result and the reference's are the same function of the arguments. -/
theorem result_eq (x : Vec Ideal Cert.KernelIdeal.S96x1x4608 .bf16) (p : Vec Ideal Cert.KernelIdeal.S1152x36864 .i8)
    (g : Vec Ideal Cert.KernelIdeal.S288x36864 .i8) (d dm : Vec Ideal Cert.KernelIdeal.S18x36864 .bf16) :
    Cert.ReferenceIdeal.Read.val_main_v39 (F := Ideal) x p g d dm = Cert.KernelIdeal.Array.result x p g d dm := by
  funext i
  idx_vars i
  obtain rfl : i1 = 0 := Subsingleton.elim _ _
  exact (Cert.ReferenceIdeal.Proved.result_apply x p g d dm i0 i2).trans
    (Cert.KernelIdeal.Array.result_apply x p g d dm i0 i2).symm

/-- The reference runs to its end, changes no argument and leaves every counter at zero. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- From equal arguments the kernel and the reference end with equal results, over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Array.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4⟩ := hagree c
  rw [h0, h1, h2, h3, h4]
  exact (Cert.ReferenceIdeal.Read.val_main_v39_eq _ _ _ _ _).trans (result_eq _ _ _ _ _)

/-- Every claim of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
